-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x76x76 : Shape := ⟨4, ![16, 255, 76, 76]⟩
abbrev S76x76x16x255 : Shape := ⟨4, ![76, 76, 16, 255]⟩
abbrev S92416x255 : Shape := ⟨2, ![92416, 255]⟩
abbrev S16x17328x85 : Shape := ⟨3, ![16, 17328, 85]⟩
abbrev S4864x128 : Shape := ⟨2, ![4864, 128]⟩
abbrev S16x912x85 : Shape := ⟨3, ![16, 912, 85]⟩
abbrev S304x128 : Shape := ⟨2, ![304, 128]⟩
abbrev S304x85 : Shape := ⟨2, ![304, 85]⟩
abbrev S1x304x85 : Shape := ⟨3, ![1, 304, 85]⟩
abbrev S304x43 : Shape := ⟨2, ![304, 43]⟩
abbrev S304x42 : Shape := ⟨2, ![304, 42]⟩

abbrev nBuf : Space → Nat
  | .hbm => 4
  | .vmem => 6
  | .smem => 0
  | _ => 0

abbrev bufTy : (tb : Table) → Fin (tcTables nBuf tb) → BufTy
  | .hbm, ⟨0, _⟩ => ⟨S16x255x76x76, .f32⟩
  | .hbm, ⟨1, _⟩ => ⟨S76x76x16x255, .f32⟩
  | .hbm, ⟨2, _⟩ => ⟨S92416x255, .f32⟩
  | .hbm, ⟨3, _⟩ => ⟨S16x17328x85, .f32⟩
  | .local _ .vmem, ⟨0, _⟩ => ⟨S4864x128, .f32⟩
  | .local _ .vmem, ⟨1, _⟩ => ⟨S4864x128, .f32⟩
  | .local _ .vmem, ⟨2, _⟩ => ⟨S4864x128, .f32⟩
  | .local _ .vmem, ⟨3, _⟩ => ⟨S4864x128, .f32⟩
  | .local _ .vmem, ⟨4, _⟩ => ⟨S16x912x85, .f32⟩
  | .local _ .vmem, ⟨5, _⟩ => ⟨S16x912x85, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4864x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4864x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x912x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x255x76x76 : Shape := ⟨4, ![16, 255, 76, 76]⟩
abbrev S3x2 : Shape := ⟨2, ![3, 2]⟩
abbrev S16x255x5776 : Shape := ⟨3, ![16, 255, 5776]⟩
abbrev S16x5776x255 : Shape := ⟨3, ![16, 5776, 255]⟩
abbrev S16x17328x85 : Shape := ⟨3, ![16, 17328, 85]⟩
abbrev S16x17328x2 : Shape := ⟨3, ![16, 17328, 2]⟩
abbrev S_ : Shape := ⟨0, ![]⟩
abbrev S16x17328x1 : Shape := ⟨3, ![16, 17328, 1]⟩
abbrev S76 : Shape := ⟨1, ![76]⟩
abbrev S76x76 : Shape := ⟨2, ![76, 76]⟩
abbrev S5776x1 : Shape := ⟨2, ![5776, 1]⟩
abbrev S5776x2 : Shape := ⟨2, ![5776, 2]⟩
abbrev S1x5776x1x2 : Shape := ⟨4, ![1, 5776, 1, 2]⟩
abbrev S1x5776x3x2 : Shape := ⟨4, ![1, 5776, 3, 2]⟩
abbrev S5776x6 : Shape := ⟨2, ![5776, 6]⟩
abbrev S17328x2 : Shape := ⟨2, ![17328, 2]⟩
abbrev S1x17328x2 : Shape := ⟨3, ![1, 17328, 2]⟩
abbrev S1x3x1x2 : Shape := ⟨4, ![1, 3, 1, 2]⟩
abbrev S5776x3x1x2 : Shape := ⟨4, ![5776, 3, 1, 2]⟩
abbrev S16x17328x80 : Shape := ⟨3, ![16, 17328, 80]⟩
abbrev S16x17328x4 : Shape := ⟨3, ![16, 17328, 4]⟩

abbrev nBuf : Space → Nat
  | .hbm => 60
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S3x2, .f32⟩
  | .hbm, ⟨2, _⟩ => ⟨S16x255x5776, .f32⟩
  | .hbm, ⟨3, _⟩ => ⟨S16x5776x255, .f32⟩
  | .hbm, ⟨4, _⟩ => ⟨S16x17328x85, .f32⟩
  | .hbm, ⟨5, _⟩ => ⟨S16x17328x2, .f32⟩
  | .hbm, ⟨6, _⟩ => ⟨S16x17328x2, .f32⟩
  | .hbm, ⟨7, _⟩ => ⟨S16x17328x2, .f32⟩
  | .hbm, ⟨8, _⟩ => ⟨S_, .f32⟩
  | .hbm, ⟨9, _⟩ => ⟨S16x17328x2, .f32⟩
  | .hbm, ⟨10, _⟩ => ⟨S16x17328x2, .f32⟩
  | .hbm, ⟨11, _⟩ => ⟨S_, .f32⟩
  | .hbm, ⟨12, _⟩ => ⟨S16x17328x2, .f32⟩
  | .hbm, ⟨13, _⟩ => ⟨S16x17328x2, .f32⟩
  | .hbm, ⟨14, _⟩ => ⟨S16x17328x1, .f32⟩
  | .hbm, ⟨15, _⟩ => ⟨S16x17328x1, .f32⟩
  | .hbm, ⟨16, _⟩ => ⟨S16x17328x1, .f32⟩
  | .hbm, ⟨17, _⟩ => ⟨S_, .f32⟩
  | .hbm, ⟨18, _⟩ => ⟨S16x17328x1, .f32⟩
  | .hbm, ⟨19, _⟩ => ⟨S16x17328x1, .f32⟩
  | .hbm, ⟨20, _⟩ => ⟨S_, .f32⟩
  | .hbm, ⟨21, _⟩ => ⟨S16x17328x1, .f32⟩
  | .hbm, ⟨22, _⟩ => ⟨S16x17328x1, .f32⟩
  | .hbm, ⟨23, _⟩ => ⟨S76, .i32⟩
  | .hbm, ⟨24, _⟩ => ⟨S76x76, .i32⟩
  | .hbm, ⟨25, _⟩ => ⟨S76x76, .i32⟩
  | .hbm, ⟨26, _⟩ => ⟨S5776x1, .i32⟩
  | .hbm, ⟨27, _⟩ => ⟨S5776x1, .f32⟩
  | .hbm, ⟨28, _⟩ => ⟨S5776x1, .i32⟩
  | .hbm, ⟨29, _⟩ => ⟨S5776x1, .f32⟩
  | .hbm, ⟨30, _⟩ => ⟨S5776x2, .f32⟩
  | .hbm, ⟨31, _⟩ => ⟨S1x5776x1x2, .f32⟩
  | .hbm, ⟨32, _⟩ => ⟨S1x5776x3x2, .f32⟩
  | .hbm, ⟨33, _⟩ => ⟨S5776x6, .f32⟩
  | .hbm, ⟨34, _⟩ => ⟨S17328x2, .f32⟩
  | .hbm, ⟨35, _⟩ => ⟨S1x17328x2, .f32⟩
  | .hbm, ⟨36, _⟩ => ⟨S16x17328x2, .f32⟩
  | .hbm, ⟨37, _⟩ => ⟨S16x17328x2, .f32⟩
  | .hbm, ⟨38, _⟩ => ⟨S1x3x1x2, .f32⟩
  | .hbm, ⟨39, _⟩ => ⟨S5776x3x1x2, .f32⟩
  | .hbm, ⟨40, _⟩ => ⟨S17328x2, .f32⟩
  | .hbm, ⟨41, _⟩ => ⟨S1x17328x2, .f32⟩
  | .hbm, ⟨42, _⟩ => ⟨S16x17328x2, .f32⟩
  | .hbm, ⟨43, _⟩ => ⟨S16x17328x2, .f32⟩
  | .hbm, ⟨44, _⟩ => ⟨S16x17328x2, .f32⟩
  | .hbm, ⟨45, _⟩ => ⟨S16x17328x2, .f32⟩
  | .hbm, ⟨46, _⟩ => ⟨S16x17328x80, .f32⟩
  | .hbm, ⟨47, _⟩ => ⟨S16x17328x80, .f32⟩
  | .hbm, ⟨48, _⟩ => ⟨S16x17328x80, .f32⟩
  | .hbm, ⟨49, _⟩ => ⟨S_, .f32⟩
  | .hbm, ⟨50, _⟩ => ⟨S16x17328x80, .f32⟩
  | .hbm, ⟨51, _⟩ => ⟨S16x17328x80, .f32⟩
  | .hbm, ⟨52, _⟩ => ⟨S_, .f32⟩
  | .hbm, ⟨53, _⟩ => ⟨S16x17328x80, .f32⟩
  | .hbm, ⟨54, _⟩ => ⟨S16x17328x80, .f32⟩
  | .hbm, ⟨55, _⟩ => ⟨S16x17328x4, .f32⟩
  | .hbm, ⟨56, _⟩ => ⟨S_, .f32⟩
  | .hbm, ⟨57, _⟩ => ⟨S16x17328x4, .f32⟩
  | .hbm, ⟨58, _⟩ => ⟨S16x17328x4, .f32⟩
  | .hbm, ⟨59, _⟩ => ⟨S16x17328x85, .f32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_4 : Ref sig .tc := ⟨.hbm, 49, rfl⟩
abbrev main_v43 : Ref sig .tc := ⟨.hbm, 50, rfl⟩
abbrev main_v44 : Ref sig .tc := ⟨.hbm, 51, rfl⟩
abbrev main_cst_5 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_6 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Proof.Same.lean ====
/-
  ONE PROGRAM. The kernel and its idealization are the same text, so their bodies, and with them their body
  tables, are equal: what is proved of the idealization over any float values holds of the kernel.
-/
module

public import proofs.«01_k».proof.Proof.Gen.Kernel
public import proofs.«01_k».proof.Proof.Gen.KernelIdeal

@[expose] public section

noncomputable section

namespace Cert.Yolo

open Idealize.ShloMosaic

variable {F : FTy → Type} [FloatOps F]

/-- The two bodies are one. -/
theorem same_body : Cert.KernelIdeal.cc0__decode_body (F := F) = Cert.Kernel.cc0__decode_body := rfl

/-- So the kernels' tables, at their one label, are one, -/
theorem same_kernels : Cert.KernelIdeal.defs₀ (F := F) = Cert.Kernel.defs₀ := by
  unfold Cert.KernelIdeal.defs₀ Cert.Kernel.defs₀
  refine congrArg Defs.onTc (funext fun l => funext fun a => ?_)
  match l, a with
  | ⟨0, _⟩, (t, s) => exact congrFun (congrFun (congrFun (congrFun (congrFun (congrFun (congrFun same_body _) _) _) _) _) _) _

/-- and the programs' tables. -/
theorem same_defs : Cert.KernelIdeal.defs (F := F) = Cert.Kernel.defs :=
  congrArg (Pipeline.defs (Cert.Kernel.pcfgs (F := F))) same_kernels

end Cert.Yolo

end
-- ==== Proof.Tile.lean ====
/-
  WHAT ONE BLOCK COMPUTES. At grid point `i` the kernel body reads two blocks of 4864 rows by 128 lanes and fills a
  block of 16 planes of 912 rows by 85 lanes by 48 strided stores. This file states the result as one function of the
  index, `tile`, and proves that the stores, which cover the block, leave exactly it. No run of the machine appears
  here: the run is in Body.lean.
-/
module

public import proofs.«01_k».proof.Proof.Gen.KernelIdeal.Frame
public import proofs.«01_k».proof.Proof.Gen.KernelIdeal.Skeleton
public import Idealize.ShloMosaic.Lib.Pipeline.Value
public import Idealize.ShloMosaic.Lib.PointwiseCore

@[expose] public section

noncomputable section

namespace Cert.Yolo

open Cert.KernelIdeal Cert.KernelIdeal.Gen
open Idealize.ShloMosaic

variable {F : FTy → Type} [FloatOps F]

/-! ## The decoding of one half of the lanes -/

/-- Eight times the grid row of each of the block's 304 pixels. -/
def rowOff (i : grid0.Coords) : FVec F S304x128 .f32 :=
  k0_pay5 (Scalar.muli (BitVec.ofNat 32 (i 0).val) 4#32) k0_pay2 k0_pay3 k0_pay4

/-- Lanes 0 to 127: the anchor that scales the exponential, -/
def anchL : FVec F S304x128 .f32 := k0_pay12 k0_pay7 k0_pay8 k0_pay9 k0_pay10 k0_pay11
/-- what the scaled sigmoid of the negated input is subtracted from, -/
def topL (i : grid0.Coords) : FVec F S304x128 .f32 := k0_pay13 k0_pay1 (rowOff i) k0_pay7
/-- the scale of that sigmoid, -/
def sclL : FVec F S304x128 .f32 := k0_pay14 k0_pay7
/-- and the lanes that hold a width or a height. -/
def whL : IVec S304x128 1 := k0_pay15 k0_pay7

/-- The same four for lanes 128 to 255. -/
def anchR : FVec F S304x128 .f32 := k0_pay21 k0_pay16 k0_pay17 k0_pay18 k0_pay19
@[inherit_doc anchR] def topR (i : grid0.Coords) : FVec F S304x128 .f32 :=
  k0_pay22 k0_pay1 (rowOff i) k0_pay17 k0_pay18 k0_pay19
@[inherit_doc anchR] def sclR : FVec F S304x128 .f32 := k0_pay23 k0_pay17 k0_pay18 k0_pay19
@[inherit_doc anchR] def whR : IVec S304x128 1 := k0_pay25 (k0_pay20 k0_pay17 k0_pay18 k0_pay19) k0_pay24

/-- The decoded values of the first 128 lanes, from the inputs `u`, -/
def decL (i : grid0.Coords) (u : FVec F S304x128 .f32) : FVec F S304x128 .f32 := k0_pay26 anchL (topL i) sclL whL u
/-- and of the lanes from 128 on. -/
def decR (i : grid0.Coords) (u : FVec F S304x128 .f32) : FVec F S304x128 .f32 := k0_pay26 anchR (topR i) sclR whR u

/-! ## The loads and the stores -/

/-- Every sixteenth row from row `b` on: the 304 pixels of image `b`. -/
def imgRows (b : Fin 16) : LoadRect S4864x128 where
  off := ![b.val, 0]
  size := S304x128.size
  stride := ![16, 1]
  inb a := by
    match a with
    | ⟨0, _⟩ => exact Or.inr (show b.val + 16 * (304 - 1) < 4864 by omega)
    | ⟨1, _⟩ => exact Or.inr (show 0 + 1 * (128 - 1) < 128 by omega)

/-- What a load of them reads of a block `x`. -/
def img (b : Fin 16) (x : Vec F S4864x128 .f32) : FVec F S304x128 .f32 := fun j => x ((imgRows b).idx j)

/-- Every third row from row `a` on of plane `b`: where the boxes of anchor `a` in image `b` are stored. -/
def boxRows (b : Fin 16) (a : Fin 3) : Rect S16x912x85 where
  off := ![b.val, a.val, 0]
  size := S1x304x85.size
  stride := ![1, 3, 1]
  inb d := by
    match d with
    | ⟨0, _⟩ => exact Or.inr (show b.val + 1 * (1 - 1) < 16 by omega)
    | ⟨1, _⟩ => exact Or.inr (show a.val + 3 * (304 - 1) < 912 by omega)
    | ⟨2, _⟩ => exact Or.inr (show 0 + 1 * (85 - 1) < 85 by omega)
  stride_pos d := by
    match d with
    | ⟨0, _⟩ => exact Nat.one_pos
    | ⟨1, _⟩ => exact (by omega : 0 < 3)
    | ⟨2, _⟩ => exact Nat.one_pos

/-- The boxes of the first anchor: lanes 0 to 84, -/
def boxes0 (l : FVec F S304x128 .f32) : FVec F S1x304x85 .f32 :=
  shapeCast S1x304x85 (extractStridedSlice S304x85 ![0, 0] l slices_S304x128_o0_0_S304x85) shapeCasts_S304x85_S1x304x85
/-- of the second: lanes 85 to 127 of the first half then 0 to 41 of the second, -/
def boxes1 (l r : FVec F S304x128 .f32) : FVec F S1x304x85 .f32 :=
  shapeCast S1x304x85
    (concatenate S304x85 1 [⟨S304x43, extractStridedSlice S304x43 ![0, 85] l slices_S304x128_o0_85_S304x43⟩,
      ⟨S304x42, extractStridedSlice S304x42 ![0, 0] r slices_S304x128_o0_0_S304x42⟩] concatenates_S304x43_S304x42_S304x85_d1)
    shapeCasts_S304x85_S1x304x85
/-- of the third: lanes 42 to 126 of the second half. -/
def boxes2 (r : FVec F S304x128 .f32) : FVec F S1x304x85 .f32 :=
  shapeCast S1x304x85 (extractStridedSlice S304x85 ![0, 42] r slices_S304x128_o0_42_S304x85) shapeCasts_S304x85_S1x304x85

/-- The three stores of image `b`, last first, -/
def imgPieces (i : grid0.Coords) (x0 x1 : Vec F S4864x128 .f32) (b : Fin 16) : List (View.Piece (Elt F) S16x912x85 .f32) :=
  [⟨boxRows b 2, boxes2 (decR i (img b x1))⟩, ⟨boxRows b 1, boxes1 (decL i (img b x0)) (decR i (img b x1))⟩,
    ⟨boxRows b 0, boxes0 (decL i (img b x0))⟩]

/-- and the block's 48 stores, last first. -/
def pieces (i : grid0.Coords) (x0 x1 : Vec F S4864x128 .f32) : List (View.Piece (Elt F) S16x912x85 .f32) :=
  ([15, 14, 13, 12, 11, 10, 9, 8, 7, 6, 5, 4, 3, 2, 1, 0] : List (Fin 16)).flatMap (imgPieces i x0 x1)

/-! ## The block as one function -/

/-- The decoded value of image `b`, pixel `r` of the block, channel `l` (0 to 254, counted over both halves). -/
def chan (i : grid0.Coords) (x0 x1 : Vec F S4864x128 .f32) (b : Fin 16) (r : Fin 304) (l : Fin 255) : F .f32 :=
  if h : l.val < 128 then decL i (img b x0) (ix2 r ⟨l.val, h⟩) else decR i (img b x1) (ix2 r ⟨l.val - 128, by omega⟩)

/-- The block the body leaves: plane `b`, row `3 r + a`, lane `k` hold channel `85 a + k` of pixel `r` of image `b`. -/
def tile (i : grid0.Coords) (x0 x1 : Vec F S4864x128 .f32) (y : S16x912x85.Idx) : F .f32 :=
  chan i x0 x1 (y 0) ⟨(y 1).val / 3, by have : (y 1).val < 912 := (y 1).isLt; omega⟩
    ⟨(y 1).val % 3 * 85 + (y 2).val, by have : (y 2).val < 85 := (y 2).isLt; omega⟩

/-- At an index of the store of anchor `a` of image `b`, `tile` is the channel that store is of. -/
theorem tile_boxRows (i : grid0.Coords) (x0 x1 : Vec F S4864x128 .f32) (b : Fin 16) (a : Fin 3) (r : Fin 304) (k : Fin 85) :
    tile i x0 x1 ((boxRows b a).emb (ix3 (n0 := 1) (n1 := 304) (n2 := 85) 0 r k))
      = chan i x0 x1 b r ⟨a.val * 85 + k.val, by omega⟩ := by
  have e0 : (boxRows b a).emb (ix3 (n0 := 1) (n1 := 304) (n2 := 85) 0 r k) 0 = b := Fin.ext (show b.val + 1 * 0 = b.val by omega)
  have e1 : ((boxRows b a).emb (ix3 (n0 := 1) (n1 := 304) (n2 := 85) 0 r k) 1).val = a.val + 3 * r.val := rfl
  have e2 : ((boxRows b a).emb (ix3 (n0 := 1) (n1 := 304) (n2 := 85) 0 r k) 2).val = k.val := show 0 + 1 * k.val = k.val by omega
  unfold tile
  congr 1
  · exact Fin.ext (by show _ / 3 = r.val; rw [e1]; omega)
  · exact Fin.ext (by show _ % 3 * 85 + _ = a.val * 85 + k.val; rw [e1, e2]; omega)

/-- A store's vector with its unit leading axis dropped. -/
theorem cast_apply (v : FVec F S304x85 .f32) (r : Fin 304) (k : Fin 85) :
    shapeCast S1x304x85 v shapeCasts_S304x85_S1x304x85 (ix3 (n0 := 1) (n1 := 304) (n2 := 85) 0 r k) = v (ix2 r k) :=
  shapeCast_apply _ _ _ _ (by
    rw [Shape.rowMajor_val_two, Shape.rowMajor_val_three]
    show r.val * 85 + k.val = (0 * 304 + r.val) * 85 + k.val
    omega)

theorem boxes0_apply (l : FVec F S304x128 .f32) (r : Fin 304) (k : Fin 85) :
    boxes0 l (ix3 (n0 := 1) (n1 := 304) (n2 := 85) 0 r k) = l (ix2 r ⟨k.val, by omega⟩) :=
  (cast_apply _ r k).trans (extractStridedSlice_apply _ _ _ _ _ (fun a => by
    match a with
    | ⟨0, _⟩ => show r.val = 0 + r.val; omega
    | ⟨1, _⟩ => show k.val = 0 + k.val; omega))

theorem boxes2_apply (v : FVec F S304x128 .f32) (r : Fin 304) (k : Fin 85) :
    boxes2 v (ix3 (n0 := 1) (n1 := 304) (n2 := 85) 0 r k) = v (ix2 r ⟨42 + k.val, by omega⟩) :=
  (cast_apply _ r k).trans (extractStridedSlice_apply _ _ _ _ _ (fun a => by
    match a with
    | ⟨0, _⟩ => show r.val = 0 + r.val; omega
    | ⟨1, _⟩ => rfl))

theorem boxes1_apply (l v : FVec F S304x128 .f32) (r : Fin 304) (k : Fin 85) :
    boxes1 l v (ix3 (n0 := 1) (n1 := 304) (n2 := 85) 0 r k)
      = if h : k.val < 43 then l (ix2 r ⟨85 + k.val, by omega⟩) else v (ix2 r ⟨k.val - 43, by omega⟩) := by
  refine (cast_apply _ r k).trans ?_
  by_cases h : k.val < 43
  · rw [dif_pos h]
    refine (concatenate_pair_apply_left (t := S304x85) (s₁ := S304x43) (s₂ := S304x42) (1 : Fin 2) _ _ _ (ix2 r k) rfl
      (ix2 (n0 := 304) (n1 := 43) r ⟨k.val, h⟩) (fun b => ?_)).trans (extractStridedSlice_apply _ _ _ _ _ (fun a => ?_))
    · match b with
      | ⟨0, _⟩ => rfl
      | ⟨1, _⟩ => rfl
    · match a with
      | ⟨0, _⟩ => show r.val = 0 + r.val; omega
      | ⟨1, _⟩ => rfl
  · rw [dif_neg h]
    refine (concatenate_pair_apply_right (t := S304x85) (s₁ := S304x43) (s₂ := S304x42) (1 : Fin 2) _ _ _ (ix2 r k) rfl rfl
      (ix2 (n0 := 304) (n1 := 42) r ⟨k.val - 43, by omega⟩) (fun b hb => ?_) ?_).trans
      (extractStridedSlice_apply _ _ _ _ _ (fun a => ?_))
    · match b with
      | ⟨0, _⟩ => rfl
      | ⟨1, _⟩ => exact absurd rfl hb
    · show k.val - 43 + 43 = k.val; omega
    · match a with
      | ⟨0, _⟩ => show r.val = 0 + r.val; omega
      | ⟨1, _⟩ => show k.val - 43 = 0 + (k.val - 43); omega

/-- A channel below 128 is decoded from the first block, -/
theorem chan_left (i : grid0.Coords) (x0 x1 : Vec F S4864x128 .f32) (b : Fin 16) (r : Fin 304) (l : Fin 255) (q : Fin 128)
    (h : q.val = l.val) : chan i x0 x1 b r l = decL i (img b x0) (ix2 r q) := by
  unfold chan
  rw [dif_pos (h ▸ q.isLt)]
  exact congrArg (fun q => decL i (img b x0) (ix2 r q)) (Fin.ext h.symm)
/-- one from 128 on from the second. -/
theorem chan_right (i : grid0.Coords) (x0 x1 : Vec F S4864x128 .f32) (b : Fin 16) (r : Fin 304) (l : Fin 255) (q : Fin 128)
    (h : q.val + 128 = l.val) : chan i x0 x1 b r l = decR i (img b x1) (ix2 r q) := by
  unfold chan
  rw [dif_neg (by omega)]
  exact congrArg (fun q => decR i (img b x1) (ix2 r q)) (Fin.ext (by show l.val - 128 = q.val; omega))

/-- Every store's payload is `tile` at the store's indices. -/
theorem pieces_agree (i : grid0.Coords) (x0 x1 : Vec F S4864x128 .f32) (p : View.Piece (Elt F) S16x912x85 .f32)
    (hp : p ∈ pieces i x0 x1) (x : p.1.shape.Idx) : p.2 x = tile i x0 x1 (p.1.emb x) := by
  obtain ⟨b, -, hb⟩ := List.mem_flatMap.mp hp
  have key : ∀ (a : Fin 3) (w : FVec F S1x304x85 .f32),
      (∀ (r : Fin 304) (k : Fin 85), w (ix3 (n0 := 1) (n1 := 304) (n2 := 85) 0 r k) = chan i x0 x1 b r ⟨a.val * 85 + k.val, by omega⟩) →
      ∀ x : S1x304x85.Idx, w x = tile i x0 x1 ((boxRows b a).emb x) := by
    intro a w hw x
    have hx : x = ix3 (n0 := 1) (n1 := 304) (n2 := 85) 0 (x 1) (x 2) := by
      refine (eq_ix3 (n0 := 1) (n1 := 304) (n2 := 85) x).trans ?_
      congr 1
      exact Subsingleton.elim (α := Fin 1) _ _
    exact (congrArg w hx).trans ((hw (x 1) (x 2)).trans ((tile_boxRows i x0 x1 b a (x 1) (x 2)).symm.trans
      (congrArg (fun q => tile i x0 x1 ((boxRows b a).emb q)) hx.symm)))
  simp only [imgPieces, List.mem_cons, List.not_mem_nil, or_false] at hb
  rcases hb with rfl | rfl | rfl
  · exact key 2 (boxes2 (decR i (img b x1))) (fun r k => (boxes2_apply _ r k).trans
      (chan_right i x0 x1 b r _ _ (show 42 + k.val + 128 = 2 * 85 + k.val by omega)).symm) x
  · refine key 1 (boxes1 (decL i (img b x0)) (decR i (img b x1))) (fun r k => (boxes1_apply _ _ r k).trans ?_) x
    by_cases h : k.val < 43
    · rw [dif_pos h]
      exact (chan_left i x0 x1 b r _ _ (show 85 + k.val = 1 * 85 + k.val by omega)).symm
    · rw [dif_neg h]
      exact (chan_right i x0 x1 b r _ _ (show k.val - 43 + 128 = 1 * 85 + k.val by omega)).symm
  · exact key 0 (boxes0 (decL i (img b x0))) (fun r k => (boxes0_apply _ r k).trans
      (chan_left i x0 x1 b r _ _ (show k.val = 0 * 85 + k.val by omega)).symm) x

/-- Each anchor's store is among its image's three. -/
theorem mem_imgPieces (i : grid0.Coords) (x0 x1 : Vec F S4864x128 .f32) (b : Fin 16) (a : Fin 3) :
    ∃ w, (⟨boxRows b a, w⟩ : View.Piece (Elt F) S16x912x85 .f32) ∈ imgPieces i x0 x1 b := by
  unfold imgPieces
  match a with
  | ⟨0, _⟩ => exact ⟨_, .tail _ (.tail _ (.head _))⟩
  | ⟨1, _⟩ => exact ⟨_, .tail _ (.head _)⟩
  | ⟨2, _⟩ => exact ⟨_, .head _⟩

/-- An index of plane `b` lies in the store of the anchor that is its row modulo three. -/
theorem mem_boxRows (b : Fin 16) (a : Fin 3) (y : S16x912x85.Idx) (hb : (y 0).val = b.val) (ha : (y 1).val % 3 = a.val) :
    y ∈ (boxRows b a).set := by
  have h1 : (y 1).val < 912 := (y 1).isLt
  rw [LoadRect.mem_set]
  intro d
  match d with
  | ⟨0, _⟩ => exact ⟨0, Nat.one_pos, show (y 0).val = b.val + 1 * 0 by omega⟩
  | ⟨1, _⟩ => exact ⟨(y 1).val / 3, show (y 1).val / 3 < 304 by omega, show (y 1).val = a.val + 3 * ((y 1).val / 3) by omega⟩
  | ⟨2, _⟩ => exact ⟨(y 2).val, (y 2).isLt, show (y 2).val = 0 + 1 * (y 2).val by omega⟩

theorem mem_images : ∀ b : Fin 16, b ∈ ([15, 14, 13, 12, 11, 10, 9, 8, 7, 6, 5, 4, 3, 2, 1, 0] : List (Fin 16)) := by decide

/-- The stores cover the block. -/
theorem pieces_cover (i : grid0.Coords) (x0 x1 : Vec F S4864x128 .f32) (y : S16x912x85.Idx) :
    ∃ p ∈ pieces i x0 x1, y ∈ p.1.set := by
  obtain ⟨b, hb⟩ : ∃ b : Fin 16, (y 0).val = b.val := ⟨⟨(y 0).val, (y 0).isLt⟩, rfl⟩
  obtain ⟨a, ha⟩ : ∃ a : Fin 3, (y 1).val % 3 = a.val := ⟨⟨(y 1).val % 3, Nat.mod_lt _ (by omega)⟩, rfl⟩
  obtain ⟨w, hw⟩ := mem_imgPieces i x0 x1 b a
  exact ⟨_, List.mem_flatMap.mpr ⟨b, mem_images b, hw⟩, mem_boxRows b a y hb ha⟩

/-- So the 48 stores, over anything, leave the block `tile`. -/
theorem canon_pieces (i : grid0.Coords) (x0 x1 : Vec F S4864x128 .f32) : View.canon (pieces i x0 x1) = tile i x0 x1 :=
  funext fun y => View.canon_apply_of_pieces (tile i x0 x1) _ (pieces_agree i x0 x1) y (pieces_cover i x0 x1 y)

end Cert.Yolo

end
-- ==== Proof.Body.lean ====
/-
  THE KERNEL BODY'S RUN. On whole staging buffers, the two inputs' at any contents, the body terminates, leaves the
  inputs' buffers as it found them and the output's at `tile` of them (Tile.lean), whatever the output's buffer held.
-/
module

public import proofs.«01_k».proof.Proof.Tile
public import Idealize.ShloMosaic.Lib.Pipeline.FrameBody
public import Idealize.ShloMosaic.Lib.Tactic

@[expose] public section

set_option maxRecDepth 16384

noncomputable section

namespace Cert.Yolo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- The body on whole staging buffers: the loads and the 48 stores run in order, and the stores leave `tile`. -/
theorem body_run (c : Dev nD) (E : Set ℕ) (i : grid0.Coords) (arg1 : Memref sig .tc .vmem S4864x128 .f32) (harg1 : arg1.IsWhole)
    (arg2 : Memref sig .tc .vmem S4864x128 .f32) (harg2 : arg2.IsWhole) (arg3 : Memref sig .tc .vmem S16x912x85 .f32) (harg3 : arg3.IsWhole)
    (x0 x1 : Vec F S4864x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tile i x0 x1)) -∗ K ⟨⟩))
      ⊢ wp frame (wpE (defs₀ (F := F)) Variants.none c none) E (cc0__decode_body i arg1 harg1 arg2 harg2 arg3 harg3) K := by
  simp only [cc0__decode_body_eq_skeleton]; unfold cc0__decode_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    refine Eq.trans ?_ ((View.read_writes_eq_canon arg3.view f2 (pieces i (arg1.view.read (Elt F) f0) (arg2.view.read (Elt F) f1))
      (pieces_cover i _ _)).trans (canon_pieces i _ _))
    rfl

end Cert.Yolo

end
-- ==== Proof.Cell.lean ====
/-
  ONE ENTRY OF A BLOCK. The body's coefficient vectors read at an index — the anchor, the base, the scale and the
  width-or-height mark as functions of the channel and of the pixel — and so `chan` (Tile.lean) in closed form: what one
  input becomes (`entry`), given its channel and its pixel's grid column and row.
-/
module

public import proofs.«01_k».proof.Proof.Tile
public import Idealize.ShloMosaic.Lib.WordCmp

@[expose] public section

noncomputable section

namespace Cert.Yolo

open Cert.KernelIdeal Cert.KernelIdeal.Gen
open Idealize.ShloMosaic
open Idealize.ShloMosaic.WordCmp

variable {F : FTy → Type} [FloatOps F]

/-! ## The closed form -/

/-- The literals one and eight. -/
def one : F .f32 := Scalar.ofBits .f32 0x3F800000#32
@[inherit_doc one] def eight : F .f32 := Scalar.ofBits .f32 0x41000000#32

/-- The anchor of channel `l`: 116, 156 or 373 wide where the lane is 2, else 90, 198 or 326 high. -/
def anch (l : ℕ) : F .f32 :=
  if l % 85 = 2 then if l < 85 then Scalar.ofBits .f32 0x42E80000#32 else if l < 170 then Scalar.ofBits .f32 0x431C0000#32 else Scalar.ofBits .f32 0x43BA8000#32
  else if l < 85 then Scalar.ofBits .f32 0x42B40000#32 else if l < 170 then Scalar.ofBits .f32 0x43460000#32 else Scalar.ofBits .f32 0x43A30000#32

/-- Eight times a grid coordinate. -/
def stride (g : ℕ) : F .f32 := FloatOps.mulf (FloatOps.sitofp .f32 (BitVec.ofNat 32 g)) eight

/-- What the scaled sigmoid of the negated input is subtracted from: eight past the cell's corner for a position. -/
def base (gx gy l : ℕ) : F .f32 :=
  if l % 85 = 0 then FloatOps.addf eight (stride gx) else if l % 85 = 1 then FloatOps.addf eight (stride gy) else one

/-- The scale of that sigmoid: eight for a position. -/
def scale (l : ℕ) : F .f32 := if l % 85 < 2 then eight else one

/-- One over one plus the exponential. -/
def negSig (u : F .f32) : F .f32 := FloatOps.divf one (FloatOps.addf one (FloatOps.exp u))

/-- What input `u` of channel `l` at grid column `gx` and row `gy` becomes. -/
def entry (gx gy l : ℕ) (u : F .f32) : F .f32 :=
  if l % 85 = 2 ∨ l % 85 = 3 then FloatOps.mulf (anch l) (FloatOps.exp u)
  else FloatOps.subf (base gx gy l) (FloatOps.mulf (scale l) (negSig u))

/-! ## Choices on words -/

/-- A choice on two words' equality is one on their values', -/
theorem select_eq {α : Type} (k n : ℕ) (hk : k < 2 ^ 32) (hn : n < 2 ^ 32) (a b : α) :
    Scalar.select (IntOp.cmpi .eq (BitVec.ofNat 32 k) (BitVec.ofNat 32 n)) a b = if k = n then a else b := by
  by_cases h : k = n
  · rw [if_pos h]; exact select_of_eq_one ((cmpi_eq_ofNat_eq_one_iff hk hn).mpr h) a b
  · rw [if_neg h]; exact select_of_eq_zero ((cmpi_eq_ofNat_eq_zero_iff hk hn).mpr h) a b
/-- and one on their order, below half the range, is one on their values'. -/
theorem select_slt {α : Type} (k n : ℕ) (hk : k < 2 ^ 31) (hn : n < 2 ^ 31) (a b : α) :
    Scalar.select (IntOp.cmpi .slt (BitVec.ofNat 32 k) (BitVec.ofNat 32 n)) a b = if k < n then a else b := by
  by_cases h : k < n
  · rw [if_pos h]; exact select_of_eq_one ((cmpi_slt_ofNat_eq_one_iff hk hn).mpr h) a b
  · rw [if_neg h]; exact select_of_eq_zero ((cmpi_slt_ofNat_eq_zero_iff hk hn).mpr h) a b

/-- The mark of a width or a height, of a lane's word. -/
theorem wh_word : ∀ k : Fin 85, IntOp.ori (IntOp.cmpi .eq (BitVec.ofNat 32 k.val) 2#32) (IntOp.cmpi .eq (BitVec.ofNat 32 k.val) 3#32)
    = if k.val = 2 ∨ k.val = 3 then 1#1 else 0#1 := by decide +kernel

/-! ## The coefficient vectors at an index -/

/-- The decode of a vector, at an index: the same of the vectors' entries there. -/
theorem decode_apply (c t s : FVec F S304x128 .f32) (w : IVec S304x128 1) (u : FVec F S304x128 .f32) (j : S304x128.Idx) :
    k0_pay26 c t s w u j
      = Scalar.select (w j) (FloatOps.mulf (c j) (FloatOps.exp (u j))) (FloatOps.subf (t j) (FloatOps.mulf (s j) (negSig (u j)))) := by
  have h : shapeCast S304x128 u shapeCasts_S304x128_S304x128 = u := funext fun j => shapeCast_apply _ _ _ _ rfl
  unfold k0_pay26
  simp only [h]
  rfl

/-- So, where the lane's word is that of channel `n` and its remainder's that of `n` modulo 85, and the pixel's two
    coordinates are `gx` and `gy`, the decode is `entry`. -/
theorem decode_entry (l k : IVec S304x128 32) (x y u : FVec F S304x128 .f32) (j : S304x128.Idx) (gx gy n : ℕ) (hn : n < 256)
    (hl : l j = BitVec.ofNat 32 n) (hk : k j = BitVec.ofNat 32 (n % 85)) (hx : x j = stride gx) (hy : y j = stride gy) :
    k0_pay26
        (k0_pay12 k (select (cmpi .slt l (broadcast S304x128 85#32)) (broadcast S304x128 (Scalar.ofBits .f32 0x42E80000#32))
            (select (cmpi .slt l (broadcast S304x128 170#32)) (broadcast S304x128 (Scalar.ofBits .f32 0x431C0000#32)) (broadcast S304x128 (Scalar.ofBits .f32 0x43BA8000#32))))
          (cmpi .slt l (broadcast S304x128 85#32))
          (select (cmpi .slt l (broadcast S304x128 170#32)) (broadcast S304x128 (Scalar.ofBits .f32 0x43460000#32)) (broadcast S304x128 (Scalar.ofBits .f32 0x43A30000#32)))
          (broadcast S304x128 (Scalar.ofBits .f32 0x42B40000#32)))
        (k0_pay13 x y k) (k0_pay14 k) (k0_pay15 k) u j
      = entry gx gy n (u j) := by
  have hk85 : n % 85 < 85 := Nat.mod_lt _ (by omega)
  have hw : k0_pay15 k j = if n % 85 = 2 ∨ n % 85 = 3 then 1#1 else 0#1 := by
    show IntOp.ori (IntOp.cmpi .eq (k j) 2#32) (IntOp.cmpi .eq (k j) 3#32) = _
    rw [hk]; exact wh_word ⟨n % 85, hk85⟩
  have hs : (k0_pay14 k j : F .f32) = scale n := by
    show Scalar.select (IntOp.cmpi .slt (k j) 2#32) eight one = _
    rw [hk, select_slt _ _ (by omega) (by omega)]; rfl
  have ht : k0_pay13 x y k j = base gx gy n := by
    show Scalar.select (IntOp.cmpi .eq (k j) 0#32) (FloatOps.addf eight (x j))
      (Scalar.select (IntOp.cmpi .eq (k j) 1#32) (FloatOps.addf eight (y j)) one) = _
    rw [hk, hx, hy, select_eq _ _ (by omega) (by omega), select_eq _ _ (by omega) (by omega)]; rfl
  rw [decode_apply, hw, hs, ht]
  unfold entry
  by_cases hwh : n % 85 = 2 ∨ n % 85 = 3
  · rw [if_pos hwh, if_pos hwh]
    refine (select_of_eq_one rfl _ _).trans (congrArg (fun a => FloatOps.mulf a (FloatOps.exp (u j))) ?_)
    show Scalar.select (IntOp.cmpi .eq (k j) 2#32)
      (Scalar.select (IntOp.cmpi .slt (l j) 85#32) _ (Scalar.select (IntOp.cmpi .slt (l j) 170#32) _ _))
      (Scalar.select (IntOp.cmpi .slt (l j) 85#32) _ (Scalar.select (IntOp.cmpi .slt (l j) 170#32) _ _)) = _
    rw [hk, hl, select_eq _ _ (by omega) (by omega)]
    simp only [select_slt n 85 (by omega) (by omega), select_slt n 170 (by omega) (by omega)]
    rfl
  · rw [if_neg hwh, if_neg hwh]
    exact select_of_eq_zero rfl _ _

/-! ## The words -/

theorem laneL_word (r : Fin 304) (q : Fin 128) : k0_pay6 (ix2 r q) = BitVec.ofNat 32 q.val :=
  (by decide +kernel : ∀ q : Fin 128, k0_pay6 (ix2 (0 : Fin 304) q) = BitVec.ofNat 32 q.val) q
theorem modL_word (r : Fin 304) (q : Fin 128) : k0_pay7 (ix2 r q) = BitVec.ofNat 32 (q.val % 85) :=
  (by decide +kernel : ∀ q : Fin 128, k0_pay7 (ix2 (0 : Fin 304) q) = BitVec.ofNat 32 (q.val % 85)) q
theorem laneR_word (r : Fin 304) (q : Fin 128) : k0_pay16 (ix2 r q) = BitVec.ofNat 32 (q.val + 128) :=
  (by decide +kernel : ∀ q : Fin 128, k0_pay16 (ix2 (0 : Fin 304) q) = BitVec.ofNat 32 (q.val + 128)) q
theorem modR_word (r : Fin 304) (q : Fin 128) : k0_pay20 k0_pay17 k0_pay18 k0_pay19 (ix2 r q) = BitVec.ofNat 32 ((q.val + 128) % 85) :=
  (by decide +kernel : ∀ q : Fin 128, k0_pay20 k0_pay17 k0_pay18 k0_pay19 (ix2 (0 : Fin 304) q) = BitVec.ofNat 32 ((q.val + 128) % 85)) q

/-- A row's grid column, as the body computes it: the remainder by 76, corrected as if it could be negative. -/
def colVec : IVec S304x128 32 :=
  let v0 : IVec S304x128 32 := iota .tc S304x128 32 [0] iota_S304x128_d0_w32
  let m : BitVec 32 := Scalar.select (Scalar.cmpi .eq 76#32 0#32) 1#32 76#32
  let v4 : IVec S304x128 32 := remsi v0 (broadcast S304x128 m)
  select (andi (xori (cmpi .slt v4 (broadcast S304x128 0#32))
      (broadcastTo S304x128 (broadcast S304x128 (Scalar.cmpi .slt m 0#32)) broadcasts_S304x128_S304x128))
      (cmpi .ne v4 (broadcast S304x128 0#32))) (addi v4 (broadcast S304x128 m)) v4

theorem col_word (r : Fin 304) (q : Fin 128) : colVec (ix2 r q) = BitVec.ofNat 32 (r.val % 76) :=
  (by decide +kernel : ∀ r : Fin 304, colVec (ix2 r (0 : Fin 128)) = BitVec.ofNat 32 (r.val % 76)) r
theorem row_word (r : Fin 304) (q : Fin 128) : select k0_pay3 k0_pay4 k0_pay2 (ix2 r q) = BitVec.ofNat 32 (r.val / 76) :=
  (by decide +kernel : ∀ r : Fin 304, select k0_pay3 k0_pay4 k0_pay2 (ix2 r (0 : Fin 128)) = BitVec.ofNat 32 (r.val / 76)) r

/-- The column's stride, -/
theorem colOff_apply (r : Fin 304) (q : Fin 128) : k0_pay1 (F := F) (ix2 r q) = stride (r.val % 76) := by
  show FloatOps.mulf (FloatOps.sitofp .f32 (colVec (ix2 r q))) eight = _
  rw [col_word]; rfl
/-- and the row's, of the block at grid point `i`. -/
theorem rowOff_apply (i : grid0.Coords) (r : Fin 304) (q : Fin 128) :
    rowOff (F := F) i (ix2 r q) = stride ((i 0).val * 4 + r.val / 76) := by
  show FloatOps.mulf (FloatOps.sitofp .f32 (IntOp.addi (IntOp.muli (BitVec.ofNat 32 (i 0).val) (BitVec.ofNat 32 4))
    (select k0_pay3 k0_pay4 k0_pay2 (ix2 r q)))) eight = _
  rw [row_word, muli_ofNat, addi_ofNat]; rfl

/-! ## The entries -/

/-- The first half's decode is `entry`, -/
theorem decL_apply (i : grid0.Coords) (u : FVec F S304x128 .f32) (r : Fin 304) (q : Fin 128) :
    decL i u (ix2 r q) = entry (r.val % 76) ((i 0).val * 4 + r.val / 76) q.val (u (ix2 r q)) :=
  decode_entry k0_pay6 k0_pay7 k0_pay1 (rowOff i) u (ix2 r q) _ _ _ (by omega) (laneL_word r q) (modL_word r q)
    (colOff_apply r q) (rowOff_apply i r q)
/-- and the second's, its lanes counted from 128. -/
theorem decR_apply (i : grid0.Coords) (u : FVec F S304x128 .f32) (r : Fin 304) (q : Fin 128) :
    decR i u (ix2 r q) = entry (r.val % 76) ((i 0).val * 4 + r.val / 76) (q.val + 128) (u (ix2 r q)) :=
  decode_entry k0_pay16 (k0_pay20 k0_pay17 k0_pay18 k0_pay19) k0_pay1 (rowOff i) u (ix2 r q) _ _ _ (by omega)
    (laneR_word r q) (modR_word r q) (colOff_apply r q) (rowOff_apply i r q)

/-- Row `16 r + b` of a block: pixel `r` of image `b`. -/
def pix (b : Fin 16) (r : Fin 304) : Fin 4864 := ⟨b.val + 16 * r.val, by omega⟩

theorem img_apply (b : Fin 16) (x : Vec F S4864x128 .f32) (r : Fin 304) (q : Fin 128) : img b x (ix2 r q) = x (ix2 (pix b r) q) := by
  refine congrArg x (funext fun a => Fin.ext ?_)
  match a with
  | ⟨0, _⟩ => rfl
  | ⟨1, _⟩ => show 0 + 1 * q.val = q.val; omega

/-- The input a channel is decoded from: lane `l` of the first block, or lane `l - 128` of the second. -/
def inp (x0 x1 : Vec F S4864x128 .f32) (b : Fin 16) (r : Fin 304) (l : Fin 255) : F .f32 :=
  if h : l.val < 128 then x0 (ix2 (pix b r) ⟨l.val, h⟩) else x1 (ix2 (pix b r) ⟨l.val - 128, by omega⟩)

/-- Each channel of the block is `entry` of its input. -/
theorem chan_eq (i : grid0.Coords) (x0 x1 : Vec F S4864x128 .f32) (b : Fin 16) (r : Fin 304) (l : Fin 255) :
    chan i x0 x1 b r l = entry (r.val % 76) ((i 0).val * 4 + r.val / 76) l.val (inp x0 x1 b r l) := by
  unfold chan inp
  by_cases h : l.val < 128
  · rw [dif_pos h, dif_pos h, decL_apply, img_apply]
  · rw [dif_neg h, dif_neg h, decR_apply, img_apply]
    have e : l.val - 128 + 128 = l.val := by omega
    simp only [e]

/-- Two second blocks that agree on every lane but the last give the same block: no channel reads that lane. -/
theorem tile_congr (i : grid0.Coords) (x0 x1 x1' : Vec F S4864x128 .f32)
    (h : ∀ (p : Fin 4864) (q : Fin 128), q.val < 127 → x1 (ix2 p q) = x1' (ix2 p q)) : tile i x0 x1 = tile i x0 x1' := by
  have key : ∀ (b : Fin 16) (r : Fin 304) (l : Fin 255), chan i x0 x1 b r l = chan i x0 x1' b r l := by
    intro b r l
    rw [chan_eq, chan_eq]
    congr 1
    unfold inp
    split
    · rfl
    · exact h _ _ (by show _ - 128 < 127; omega)
  exact funext fun y => key _ _ _

end Cert.Yolo

end
-- ==== Proof.Region.lean ====
/-
  THE KERNEL'S RUN. The proof data of the one pipeline — after the body at a grid point the two inputs' staging buffers
  hold their blocks of the transposed image and the output's holds `tile` of them —, the body obligation, from the
  body's run (Body.lean), and the run of @main. The second input's blocks overhang their array by one lane, so its
  buffer's last lane holds words nothing names; no channel reads it (Cell.lean `tile_congr`), so the output's buffer is
  known whole.
-/
module

public import proofs.«01_k».proof.Proof.Body
public import proofs.«01_k».proof.Proof.Cell
public import proofs.«01_k».proof.Proof.Gen.KernelIdeal.Frame
public import Idealize.ShloMosaic.Lib.Pipeline.FrameBody

@[expose] public section

set_option maxRecDepth 16384

noncomputable section

namespace Cert.Yolo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold -/

/-- The second input's block at a point, its overhanging lane filled with a word nothing reads. -/
def X1 (c : Dev nD) (t : Fin cfg0.N) : Vec F S4864x128 .f32 :=
  win0_1.fill (grid0.coords t) (fun _ => (one : F .f32)) (iblk m c 1 t)

/-- At every point the second input's block lies inside its array on all rows and on the first 127 lanes. -/
theorem xsize_1 : ∀ t : Fin grid0.N, win0_1.xsize (grid0.coords t) 0 = 4864 ∧ win0_1.xsize (grid0.coords t) 1 = 127 := by
  decide +kernel

/-- Those lanes are the ones its fetch fills. -/
theorem moved_1 (t : Fin cfg0.N) (p : Fin 4864) (q : Fin 128) (hq : q.val < 127) :
    win0_1.moved (grid0.coords t) (ix2 p q) = true := (win0_1.moved_iff _ _).mpr fun a => by
  match a with
  | ⟨0, _⟩ => exact lt_of_lt_of_eq p.isLt (xsize_1 t).1.symm
  | ⟨1, _⟩ => exact lt_of_lt_of_eq hq (xsize_1 t).2.symm

/-- So a fetch determines those lanes, whatever the buffer held. -/
theorem fill_lanes (t : Fin cfg0.N) (d d' : Vec F S4864x128 .f32) (g : (win0_1.xblock (grid0.coords t)).Idx → F .f32)
    (p : Fin 4864) (q : Fin 128) (hq : q.val < 127) :
    (win0_1.fill (grid0.coords t) d g : Vec F S4864x128 .f32) (ix2 p q) = win0_1.fill (grid0.coords t) d' g (ix2 p q) := by
  unfold Pipeline.Window.fill
  rw [dif_pos (moved_1 t p q hq), dif_pos (moved_1 t p q hq)]

/-- The proof data: the arrays as the region finds them; after the body the inputs' buffers at their blocks and the
    output's at `tile` of them; nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X1 m c t
    | ⟨2, _⟩ => tile (grid0.coords t) (X0_0 m c t) (X1 m c t)
  Φ _ := Pipeline.ΦA spec0 c
  q w := Pipeline.shareOf spec0 w
  owed _ := 0

/-- The arrays' entry contents. -/
theorem A_eq (c : Dev nD) (w : Fin cfg0.W) : (dats m 0 c).A w = V m c (Pipeline.arrRef spec0 w) := by dsimp only [dats]

/-- When the body runs, the first input's buffer holds its block, -/
theorem before_0 (c : Dev nD) (t : Fin cfg0.N) (d) : (dats m 0 c).before 0 t d = X0_0 m c t :=
  before0_0_of m (dats m 0 c) (A_eq m c 0) (fun _ => by dsimp only [dats]) t d
/-- and the second's its block over what the buffer held. -/
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation -/

/-- The body table's row at a point is the body on that point's staging buffers. -/
theorem body_row (t : Fin cfg0.N) : defs₀ (F := F) .tc cfg0.body (cfg0.bodyArgs t (cfg0.slots t)) = bodyAt0 t := by
  unfold defs₀; rw [Defs.onTc_tc]

set_option maxHeartbeats 1000000 in
/-- The body, at every point, keeps the proof data. -/
theorem body_kept (c : Dev nD) : BodyObligationLoose (dats m 0 c) (defs₀ (F := F)) Variants.none () Set.univ := fun t => by
  rw [bigSep_W0, bigSep_W0, body_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (body_run (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (X0_0 m c t) (win0_1.fill (grid0.coords t) d1 (iblk m c 1 t)) _)
  isplitl [H0]; · iexact H0
  isplitl [H1]; · iexact H1
  isplitl [H2]
  · iexists _; iexact H2
  iintro ⟨H0, H1, H2⟩
  isplitl [HΦ]; · iexact HΦ
  isplitl [Ho]; · iexact Ho
  have h0 : (cfg0.win 0).fill (grid0.coords t) (X0_0 m c t) ((cfg0.win 0).cut (grid0.coords t) (X0_0 m c t)) = X0_0 m c t :=
    (cfg0.win 0).fill_cut _ _
  have h1 : win0_1.cut (grid0.coords t) (X1 m c t) = iblk m c 1 t := win0_1.cut_fill _ _ _
  have h2 : tile (grid0.coords t) (X0_0 m c t) (win0_1.fill (grid0.coords t) d1 (iblk m c 1 t))
      = tile (grid0.coords t) (X0_0 m c t) (X1 m c t) := tile_congr _ _ _ _ (fill_lanes t _ _ _)
  isplitl [H0]
  · iexists X0_0 m c t
    change _ ⊢ owns (c : Thread nD τ) (st0_0 t) fullShare
      ((cfg0.win 0).fill (grid0.coords t) (X0_0 m c t) ((cfg0.win 0).cut (grid0.coords t) (X0_0 m c t)))
    rw [h0]; try iexact H0
  isplitl [H1]
  · iexists d1
    change _ ⊢ owns (c : Thread nD τ) (st0_1 t) fullShare (win0_1.fill (grid0.coords t) d1 (win0_1.cut (grid0.coords t) (X1 m c t)))
    rw [h1]; try iexact H1
  · change _ ⊢ owns (c : Thread nD τ) (st0_2 t) fullShare ((dats m 0 c).after 2 t)
    rw [show (dats m 0 c).after 2 t = tile (grid0.coords t) (X0_0 m c t) (win0_1.fill (grid0.coords t) d1 (iblk m c 1 t)) from h2.symm]
    try iexact H2

/-! ## The run -/

/-- What the run ends in: every array of the pipeline at what the proof data give, every other unscoped buffer as the
    region found it, and every semaphore counter at zero. -/
abbrev Ends (r : PUnit × MemSt nD τ sig (Elt F)) : Prop := Pipeline.FramePost cfgs (dats m) 0 (V m) r ∧ r.2.sem = fun _ => 0

-- the implicit arguments are read off the conclusion
set_option backward.isDefEq.respectTransparency.types false in
set_option maxHeartbeats 4000000 in
/-- From any memory with zero counters every weakly fair execution of @main terminates, in a state as `Ends` says. -/
theorem run_main : θ_run defs (onTc (τ := τ) (main (F := F))) (s₀ m ρ) (Ends m) :=
  Pipeline.θ_run_frame_shared cfgs (dats m) (0 : Fin 1) launch₀0 defs₀ Variants.none m ρ main
    (hbody := body_kept m) (hq := fun _ _ _ => rfl) (howed := fun _ _ => rfl) (V := V m) (hmain := hmain m Variants.none)
    (hA := A_eq m) (hΦ := fun _ _ => rfl) (Q' := Ends m) (hQ' := fun _ h => h)

/-- In such a state the argument is as launched. -/
theorem arg_kept (r : PUnit × MemSt nD τ sig (Elt F)) (h : Ends m r) (c : Dev nD) :
    r.2.mem ((c.tc : Thread nD τ).loc main_arg0) = m ((c.tc : Thread nD τ).loc main_arg0) :=
  ((h.1 c).2 main_arg0 (Pipeline.mem_restRefs_of main_arg0 (by decide) (by decide))).trans (V_main_arg0 m c)

end Cert.Yolo

end
-- ==== Proof.Image.lean ====
/-
  WHAT THE ARRAYS HOLD. The transposed image the kernel reads, at a row and a channel, and so each of its blocks; and the
  result array as one function of the argument, `boxes`: what every grid point writes back is its block of `boxes`, and
  the blocks cover the array.
-/
module

public import proofs.«01_k».proof.Proof.Region
public import Idealize.ShloMosaic.Lib.Pipeline.ValueKit

@[expose] public section

noncomputable section

namespace Cert.Yolo

open Cert.KernelIdeal Cert.KernelIdeal.Gen
open Idealize.ShloMosaic Idealize.ShloMosaic.TcCoe
open Idealize.ShloMosaic.Pipeline (Dat)

variable {F : FTy → Type} [FloatOps F]

/-! ## The function -/

/-- The decoded value of box `n` (three to a pixel, the pixels row by row) of image `b`, lane `k`. -/
def boxAt (x : FVec F S16x255x76x76 .f32) (b : Fin 16) (n : Fin 17328) (k : Fin 85) : F .f32 :=
  entry (n.val / 3 % 76) (n.val / 3 / 76) (n.val % 3 * 85 + k.val)
    (x (ix4 b ⟨n.val % 3 * 85 + k.val, by omega⟩ ⟨n.val / 3 / 76, by omega⟩ ⟨n.val / 3 % 76, by omega⟩))

/-- All of them. -/
def boxes (x : FVec F S16x255x76x76 .f32) : FVec F S16x17328x85 .f32 := fun y => boxAt x (y 0) (y 1) (y 2)

/-! ## The transposed image -/

/-- The image with its channels last and its batch next to last, as a matrix. -/
def matrix (x : FVec F S16x255x76x76 .f32) : FVec F S92416x255 .f32 :=
  shapeCast S92416x255 (transpose S76x76x16x255 [2, 3, 0, 1] x transposes_S16x255x76x76_S76x76x16x255_2_3_0_1) shapeCasts_S76x76x16x255_S92416x255

/-- Row `16 p + b` of it is pixel `p` of image `b`. -/
theorem matrix_apply (x : FVec F S16x255x76x76 .f32) (b : Fin 16) (gy gx : Fin 76) (l : Fin 255) :
    matrix x (ix2 ⟨(gy.val * 76 + gx.val) * 16 + b.val, by omega⟩ l) = x (ix4 b l gy gx) := by
  refine (shapeCast_apply _ _ _ (ix4 gy gx b l) ?_).trans (transpose_apply _ _ _ _ _ fun a => ?_)
  · rw [Shape.rowMajor_val_two, Shape.rowMajor_val_four]; rfl
  · match a with
    | ⟨0, _⟩ => rfl
    | ⟨1, _⟩ => rfl
    | ⟨2, _⟩ => rfl
    | ⟨3, _⟩ => rfl

variable (m : (ℓ : Loc nD τ sig) → Buf (Elt F) ℓ)

/-- The argument. -/
abbrev arg (c : Dev nD) : FVec F S16x255x76x76 .f32 := m ((c : Thread nD τ).loc main_arg0)

/-- The array the kernel reads is that matrix. -/
theorem V_matrix (c : Dev nD) : V m c main_call0_v1 = matrix (arg m c) := by
  unfold V hostOps0
  after_results_simp
  rfl

/-! ## The blocks -/

theorem index_0 : ∀ t : Fin grid0.N, win0_0.index t = ![t.val, 0] := by decide +kernel
theorem index_1 : ∀ t : Fin grid0.N, win0_1.index t = ![t.val, 1] := by decide +kernel
theorem index_2 : ∀ t : Fin grid0.N, win0_2.index t = ![0, t.val, 0] := by decide +kernel
theorem coord_0 : ∀ t : Fin grid0.N, (grid0.coords t 0).val = t.val := by decide +kernel

/-- The first input's block at point `t`, at a row and a lane: the matrix, 4864 rows further per point. -/
theorem X0_apply (c : Dev nD) (t : Fin cfg0.N) (p : Fin 4864) (q : Fin 128) (r : Fin 92416) (l : Fin 255)
    (hr : r.val = t.val * 4864 + p.val) (hl : l.val = q.val) :
    (X0_0 m c t : Vec F S4864x128 .f32) (ix2 p q) = matrix (arg m c) (ix2 r l) := by
  rw [← V_matrix]
  unfold X0_0 Pipeline.Window.fill
  rw [dif_pos (moved0_0 t (ix2 p q))]
  blk_simp [iblk]
  refine congrArg (V m c main_call0_v1) (funext fun a => Fin.ext ?_)
  match a with
  | ⟨0, _⟩ => blk_simp [index_0]; exact hr.symm
  | ⟨1, _⟩ => blk_simp [index_0]; exact hl.symm

/-- The second input's, at one of the lanes its fetch fills: the same rows, 128 lanes further. -/
theorem X1_apply (c : Dev nD) (t : Fin cfg0.N) (p : Fin 4864) (q : Fin 128) (hq : q.val < 127) (r : Fin 92416) (l : Fin 255)
    (hr : r.val = t.val * 4864 + p.val) (hl : l.val = 128 + q.val) :
    (X1 m c t : Vec F S4864x128 .f32) (ix2 p q) = matrix (arg m c) (ix2 r l) := by
  rw [← V_matrix]
  unfold X1 Pipeline.Window.fill
  rw [dif_pos (moved_1 t p q hq)]
  blk_simp [iblk]
  refine congrArg (V m c main_call0_v1) (funext fun a => Fin.ext ?_)
  match a with
  | ⟨0, _⟩ => blk_simp [index_1]; exact hr.symm
  | ⟨1, _⟩ => blk_simp [index_1]; exact hl.symm

/-- So what a block's entry is decoded from is the argument at the entry's image, channel and pixel. -/
theorem inp_eq (c : Dev nD) (t : Fin cfg0.N) (b : Fin 16) (r : Fin 304) (l : Fin 255) (gy gx : Fin 76)
    (hy : gy.val = t.val * 4 + r.val / 76) (hx : gx.val = r.val % 76) :
    inp (X0_0 m c t) (X1 m c t) b r l = arg m c (ix4 b l gy gx) := by
  refine Eq.trans ?_ (matrix_apply (arg m c) b gy gx l)
  unfold inp
  split
  · exact X0_apply m c t _ _ _ _ (by simp only [pix]; omega) rfl
  · exact X1_apply m c t _ _ (by simp only; omega) _ _ (by simp only [pix]; omega) (by simp only; omega)

/-- An entry of the block written at point `t` is the box 912 further per point. -/
theorem chan_boxAt (c : Dev nD) (t : Fin cfg0.N) (b : Fin 16) (n' : Fin 912) (k : Fin 85) (n : Fin 17328)
    (hn : n.val = t.val * 912 + n'.val) :
    chan (grid0.coords t) (X0_0 m c t) (X1 m c t) b ⟨n'.val / 3, by omega⟩ ⟨n'.val % 3 * 85 + k.val, by omega⟩
      = boxAt (arg m c) b n k := by
  have hr : n'.val % 3 = n.val % 3 := by omega
  have hx : n'.val / 3 % 76 = n.val / 3 % 76 := by omega
  have hy : t.val * 4 + n'.val / 3 / 76 = n.val / 3 / 76 := by omega
  rw [chan_eq, inp_eq m c t b _ _ ⟨n.val / 3 / 76, by omega⟩ ⟨n.val / 3 % 76, by omega⟩ hy.symm hx.symm, coord_0]
  unfold boxAt
  simp only [hr, hx, hy]

/-! ## The result -/

/-- After the run the result array holds the boxes of the argument. -/
theorem out_boxes (c : Dev nD) : (dats m 0 c).arrAt 2 cfg0.N = boxes (arg m c) := by
  refine (dats m 0 c).arrAt_eq_of_covers 2 _ (by decide +kernel) fun t hf y => ?_
  blk_simp
  have e0 : (win0_2.blk t).view.emb y 0 = (y 0 : Fin 16) := Fin.ext (by blk_simp [index_2])
  have e1 : ((win0_2.blk t).view.emb y 1).val = t.val * 912 + (y 1 : Fin 912).val := by blk_simp [index_2]
  have e2 : (win0_2.blk t).view.emb y 2 = (y 2 : Fin 85) := Fin.ext (by blk_simp [index_2])
  exact (chan_boxAt m c t (y 0) (y 1) (y 2) _ e1).trans
    (congrArg₂ (fun b k => boxAt (arg m c) b ((win0_2.blk t).view.emb y 1) k) e0.symm e2.symm)

end Cert.Yolo

end
-- ==== Proof.Reference.lean ====
/-
  WHAT THE REFERENCE COMPUTES. Its term cut in named pieces — the input with a box to a row, the sigmoid, the grid
  offsets, the anchors — each read at an index, and so the whole (`refBoxes`) at an index: `refBox`.
-/
module

public import proofs.«01_k».proof.Proof.Cell
public import proofs.«01_k».proof.Proof.Gen.ReferenceIdeal.Run
public import Idealize.ShloMosaic.Lib.Pipeline.Value

@[expose] public section

noncomputable section

namespace Cert.Yolo

open Cert.ReferenceIdeal Cert.ReferenceIdeal.Gen
open Idealize.ShloMosaic Idealize.ShloMosaic.TcCoe

variable {F : FTy → Type} [FloatOps F]

/-! ## The closed form -/

/-- The reference's sigmoid of one value. -/
def refSig (u : F .f32) : F .f32 := FloatOps.hostDivf one (FloatOps.addf one (FloatOps.hostUnary .exp (FloatOps.hostNegf u)))

/-- The reference's anchor `a`, in grid cells: its width at coordinate 0, its height at 1. -/
def refAnch (a k : ℕ) : F .f32 := FloatOps.ofBits .f32 (lit0 (Fin.ofNat 6 (a * 2 + k)))

/-- What the reference makes of input `u` of lane `k`, anchor `a`, at grid column `gx` and row `gy`. -/
def refBox (gx gy a k : ℕ) (u : F .f32) : F .f32 :=
  if k < 2 then FloatOps.mulf (FloatOps.addf (refSig u) (FloatOps.sitofp .f32 (BitVec.ofNat 32 (if k = 0 then gx else gy)))) eight
  else if k < 4 then FloatOps.mulf (FloatOps.mulf (FloatOps.hostUnary .exp u) (refAnch a (k - 2))) eight
  else refSig u

/-! ## The input, a box to a row -/

/-- The input with its pixels flattened, its channels last and three boxes to a pixel. -/
def rows (x : FVec F S16x255x76x76 .f32) : FVec F S16x17328x85 .f32 :=
  shapeCast _ (transpose S16x5776x255 [0, 2, 1] (shapeCast _ x shapeCasts_S16x255x76x76_S16x255x5776)
    transposes_S16x255x5776_S16x5776x255_0_2_1) shapeCasts_S16x5776x255_S16x17328x85

/-- Lane `k` of box `n`: channel `85 (n % 3) + k` of pixel `n / 3`. -/
theorem rows_apply (x : FVec F S16x255x76x76 .f32) (b : Fin 16) (n : Fin 17328) (k : Fin 85) :
    rows x (ix3 b n k)
      = x (ix4 b ⟨n.val % 3 * 85 + k.val, by omega⟩ ⟨n.val / 3 / 76, by omega⟩ ⟨n.val / 3 % 76, by omega⟩) := by
  refine (shapeCast_apply _ _ _ (ix3 b ⟨n.val / 3, by omega⟩ ⟨n.val % 3 * 85 + k.val, by omega⟩) ?_).trans
    ((transpose_apply _ _ _ _ (ix3 b ⟨n.val % 3 * 85 + k.val, by omega⟩ ⟨n.val / 3, by omega⟩) fun a => ?_).trans
      (shapeCast_apply _ _ _ _ ?_))
  · rw [Shape.rowMajor_val_three, Shape.rowMajor_val_three]
    show (b.val * 5776 + n.val / 3) * 255 + (n.val % 3 * 85 + k.val) = (b.val * 17328 + n.val) * 85 + k.val
    omega
  · match a with
    | ⟨0, _⟩ => rfl
    | ⟨1, _⟩ => rfl
    | ⟨2, _⟩ => rfl
  · rw [Shape.rowMajor_val_three, Shape.rowMajor_val_four]
    show ((b.val * 255 + (n.val % 3 * 85 + k.val)) * 76 + n.val / 3 / 76) * 76 + n.val / 3 % 76
      = (b.val * 255 + (n.val % 3 * 85 + k.val)) * 5776 + n.val / 3
    omega

/-! ## The sigmoid -/

/-- The sigmoid of a vector. -/
def sig (s : Shape) (h : S_.BroadcastsInDim s (![] : Fin 0 → Fin s.rank)) (x : FVec F s .f32) : FVec F s .f32 :=
  Host.divf (broadcastInDim s ![] h (constant S_ .f32 0x3F800000#32))
    (addf (broadcastInDim s ![] h (constant S_ .f32 0x3F800000#32)) (Host.exp (Host.negf x)))

/-- It is the sigmoid of each entry. -/
theorem sig_apply (s : Shape) (h) (x : FVec F s .f32) (i : s.Idx) : sig s h x i = refSig (x i) := rfl

/-! ## The grid offsets -/

/-- A pixel's column, then its row. -/
def cells : FVec F S5776x2 .f32 :=
  concatenate S5776x2 1 [⟨S5776x1, sitofp .f32 (shapeCast _ (broadcastInDim S76x76 ![1] bcast_S76_S76x76_1 (iotaInDim S76 32 0)) shapeCasts_S76x76_S5776x1)⟩,
    ⟨S5776x1, sitofp .f32 (shapeCast _ (broadcastInDim S76x76 ![0] bcast_S76_S76x76_0 (iotaInDim S76 32 0)) shapeCasts_S76x76_S5776x1)⟩]
    concatenates_S5776x1_S5776x1_S5776x2_d1

/-- The word of a pixel's coordinate along axis `d` of the grid. -/
theorem cell_word (d : Fin 2) (h : S76.BroadcastsInDim S76x76 (![d] : Fin 1 → Fin 2)) (p : Fin 5776) :
    shapeCast S5776x1 (broadcastInDim S76x76 ![d] h (iotaInDim S76 32 0)) shapeCasts_S76x76_S5776x1 (ix2 p 0)
      = BitVec.ofNat 32 (if d = 1 then p.val % 76 else p.val / 76) := by
  refine (shapeCast_apply _ _ _ (ix2 ⟨p.val / 76, by omega⟩ ⟨p.val % 76, by omega⟩) ?_).trans ?_
  · rw [Shape.rowMajor_val_two, Shape.rowMajor_val_two]
    show p.val / 76 * 76 + p.val % 76 = p.val * 1 + 0
    omega
  · match d with
    | ⟨0, _⟩ => rfl
    | ⟨1, _⟩ => rfl

/-- The coordinates at an index. -/
theorem cells_apply (p : Fin 5776) (k : Fin 2) :
    (cells (ix2 p k) : F .f32) = FloatOps.sitofp .f32 (BitVec.ofNat 32 (if k.val = 0 then p.val % 76 else p.val / 76)) := by
  match k with
  | ⟨0, _⟩ =>
    refine (concatenate_pair_apply_left (t := S5776x2) (s₁ := S5776x1) (s₂ := S5776x1) 1 _ _ _ _ rfl (ix2 p 0) fun a => ?_).trans
      (congrArg (FloatOps.sitofp .f32) (cell_word 1 _ p))
    match a with
    | ⟨0, _⟩ => rfl
    | ⟨1, _⟩ => rfl
  | ⟨1, _⟩ =>
    refine (concatenate_pair_apply_right (t := S5776x2) (s₁ := S5776x1) (s₂ := S5776x1) 1 _ _ _ _ rfl rfl (ix2 p 0) (fun a ha => ?_) rfl).trans
      (congrArg (FloatOps.sitofp .f32) (cell_word 0 _ p))
    match a with
    | ⟨0, _⟩ => rfl
    | ⟨1, _⟩ => exact absurd rfl ha

/-- The coordinates of every box of every image. -/
def offs : FVec F S16x17328x2 .f32 :=
  broadcastInDim S16x17328x2 ![0, 1, 2] bcast_S1x17328x2_S16x17328x2_0_1_2 (broadcastInDim S1x17328x2 ![1, 2] bcast_S17328x2_S1x17328x2_1_2
    (shapeCast _ (shapeCast _ (broadcastInDim S1x5776x3x2 ![0, 1, 2, 3] bcast_S1x5776x1x2_S1x5776x3x2_0_1_2_3
      (shapeCast _ cells shapeCasts_S5776x2_S1x5776x1x2)) shapeCasts_S1x5776x3x2_S5776x6) shapeCasts_S5776x6_S17328x2))

/-- A vector given to every image, at an index. -/
theorem every_apply (v : FVec F S17328x2 .f32) (b : Fin 16) (n : Fin 17328) (k : Fin 2) :
    broadcastInDim S16x17328x2 ![0, 1, 2] bcast_S1x17328x2_S16x17328x2_0_1_2 (broadcastInDim S1x17328x2 ![1, 2] bcast_S17328x2_S1x17328x2_1_2 v) (ix3 b n k)
      = v (ix2 n k) := by
  refine (broadcastInDim_apply _ _ _ _ (ix3 0 n k) fun a => ?_).trans (broadcastInDim_apply _ _ _ _ _ fun a => ?_)
  · match a with
    | ⟨0, _⟩ => rfl
    | ⟨1, _⟩ => rfl
    | ⟨2, _⟩ => rfl
  · match a with
    | ⟨0, _⟩ => rfl
    | ⟨1, _⟩ => rfl

/-- Box `n` has the coordinates of pixel `n / 3`. -/
theorem offs_apply (b : Fin 16) (n : Fin 17328) (k : Fin 2) :
    (offs (ix3 b n k) : F .f32)
      = FloatOps.sitofp .f32 (BitVec.ofNat 32 (if k.val = 0 then n.val / 3 % 76 else n.val / 3 / 76)) := by
  refine (every_apply _ b n k).trans
    ((shapeCast_apply _ _ _ (ix2 ⟨n.val / 3, by omega⟩ ⟨n.val % 3 * 2 + k.val, by omega⟩) ?_).trans
    ((shapeCast_apply _ _ _ (ix4 0 ⟨n.val / 3, by omega⟩ ⟨n.val % 3, by omega⟩ k) ?_).trans
    ((broadcastInDim_apply _ _ _ _ (ix4 0 ⟨n.val / 3, by omega⟩ 0 k) fun a => ?_).trans
    ((shapeCast_apply _ _ _ (ix2 ⟨n.val / 3, by omega⟩ k) ?_).trans (cells_apply _ k)))))
  · rw [Shape.rowMajor_val_two, Shape.rowMajor_val_two]
    show n.val / 3 * 6 + (n.val % 3 * 2 + k.val) = n.val * 2 + k.val
    omega
  · rw [Shape.rowMajor_val_two, Shape.rowMajor_val_four]
    show ((0 * 5776 + n.val / 3) * 3 + n.val % 3) * 2 + k.val = n.val / 3 * 6 + (n.val % 3 * 2 + k.val)
    omega
  · match a with
    | ⟨0, _⟩ => rfl
    | ⟨1, _⟩ => rfl
    | ⟨2, _⟩ => rfl
    | ⟨3, _⟩ => rfl
  · rw [Shape.rowMajor_val_two, Shape.rowMajor_val_four]
    show n.val / 3 * 2 + k.val = ((0 * 5776 + n.val / 3) * 1 + 0) * 2 + k.val
    omega

/-! ## The anchors -/

/-- The anchors of every box of every image. -/
def anchs : FVec F S16x17328x2 .f32 :=
  broadcastInDim S16x17328x2 ![0, 1, 2] bcast_S1x17328x2_S16x17328x2_0_1_2 (broadcastInDim S1x17328x2 ![1, 2] bcast_S17328x2_S1x17328x2_1_2
    (shapeCast _ (broadcastInDim S5776x3x1x2 ![0, 1, 2, 3] bcast_S1x3x1x2_S5776x3x1x2_0_1_2_3
      (shapeCast _ (fun i => FloatOps.ofBits .f32 (lit0 (S3x2.rowMajor i))) shapeCasts_S3x2_S1x3x1x2)) shapeCasts_S5776x3x1x2_S17328x2))

/-- Box `n` has anchor `n % 3`. -/
theorem anchs_apply (b : Fin 16) (n : Fin 17328) (k : Fin 2) : (anchs (ix3 b n k) : F .f32) = refAnch (n.val % 3) k.val := by
  refine (every_apply _ b n k).trans
    ((shapeCast_apply _ _ _ (ix4 ⟨n.val / 3, by omega⟩ ⟨n.val % 3, by omega⟩ 0 k) ?_).trans
    ((broadcastInDim_apply _ _ _ _ (ix4 0 ⟨n.val % 3, by omega⟩ 0 k) fun a => ?_).trans
    ((shapeCast_apply _ _ _ (ix2 ⟨n.val % 3, by omega⟩ k) ?_).trans
      (congrArg (fun i => FloatOps.ofBits .f32 (lit0 i)) (Fin.ext ?_)))))
  · rw [Shape.rowMajor_val_two, Shape.rowMajor_val_four]
    show ((n.val / 3 * 3 + n.val % 3) * 1 + 0) * 2 + k.val = n.val * 2 + k.val
    omega
  · match a with
    | ⟨0, _⟩ => rfl
    | ⟨1, _⟩ => rfl
    | ⟨2, _⟩ => rfl
    | ⟨3, _⟩ => rfl
  · rw [Shape.rowMajor_val_two, Shape.rowMajor_val_four]
    show n.val % 3 * 2 + k.val = ((0 * 3 + n.val % 3) * 1 + 0) * 2 + k.val
    omega
  · rw [Shape.rowMajor_val_two]
    show n.val % 3 * 2 + k.val = (n.val % 3 * 2 + k.val) % 6
    omega

/-! ## The whole -/

/-- Positions, then sizes, in grid cells. -/
def corners (x : FVec F S16x255x76x76 .f32) : FVec F S16x17328x4 .f32 :=
  concatenate S16x17328x4 2 [⟨S16x17328x2, addf (sig _ bcast_S_S16x17328x2 (extractStridedSlice S16x17328x2 ![0, 0, 0] (rows x) slices_S16x17328x85_S16x17328x2_0_0_0)) offs⟩,
    ⟨S16x17328x2, mulf (Host.exp (extractStridedSlice S16x17328x2 ![0, 0, 2] (rows x) slices_S16x17328x85_S16x17328x2_0_0_2)) anchs⟩]
    concatenates_S16x17328x2_S16x17328x2_S16x17328x4_d2

/-- The reference's result. -/
def refBoxes (x : FVec F S16x255x76x76 .f32) : FVec F S16x17328x85 .f32 :=
  concatenate S16x17328x85 2 [⟨S16x17328x4, mulf (corners x) (broadcastInDim S16x17328x4 ![] bcast_S_S16x17328x4 (constant S_ .f32 0x41000000#32))⟩,
    ⟨S16x17328x1, sig _ bcast_S_S16x17328x1 (extractStridedSlice S16x17328x1 ![0, 0, 4] (rows x) slices_S16x17328x85_S16x17328x1_0_0_4)⟩,
    ⟨S16x17328x80, sig _ bcast_S_S16x17328x80 (extractStridedSlice S16x17328x80 ![0, 0, 5] (rows x) slices_S16x17328x85_S16x17328x80_0_0_5)⟩]
    concatenates_S16x17328x4_S16x17328x1_S16x17328x80_S16x17328x85_d2

/-- Lanes `o …` of the rows, at an index. -/
theorem lanes_apply (x : FVec F S16x17328x85 .f32) (w o : ℕ) (h : S16x17328x85.Slices ![0, 0, o] ⟨3, ![16, 17328, w]⟩) (b : Fin 16) (n : Fin 17328)
    (k : Fin w) (k' : Fin 85) (hk : k'.val = o + k.val) :
    extractStridedSlice ⟨3, ![16, 17328, w]⟩ ![0, 0, o] x h (ix3 b n k) = x (ix3 b n k') := by
  refine extractStridedSlice_apply _ _ _ _ _ fun a => ?_
  match a with
  | ⟨0, _⟩ => exact (Nat.zero_add _).symm
  | ⟨1, _⟩ => exact (Nat.zero_add _).symm
  | ⟨2, _⟩ => exact hk

/-- The positions and sizes at an index. -/
theorem corners_apply (x : FVec F S16x255x76x76 .f32) (b : Fin 16) (n : Fin 17328) (k : Fin 85) (hk : k.val < 4) :
    FloatOps.mulf (corners x (ix3 b n ⟨k.val, hk⟩)) eight = refBox (n.val / 3 % 76) (n.val / 3 / 76) (n.val % 3) k.val (rows x (ix3 b n k)) := by
  unfold refBox
  by_cases h : k.val < 2
  · rw [if_pos h]
    refine congrArg (FloatOps.mulf · eight) ?_
    refine (concatenate_pair_apply_left (t := S16x17328x4) (s₁ := S16x17328x2) (s₂ := S16x17328x2) 2 _ _ _ _ rfl (ix3 b n ⟨k.val, h⟩) fun a => ?_).trans
      (congrArg₂ FloatOps.addf (congrArg refSig (lanes_apply _ 2 0 _ b n _ k (Nat.zero_add _).symm)) (offs_apply b n _))
    match a with
    | ⟨0, _⟩ => rfl
    | ⟨1, _⟩ => rfl
    | ⟨2, _⟩ => rfl
  · rw [if_neg h, if_pos hk]
    refine congrArg (FloatOps.mulf · eight) ?_
    have hk2 : k.val - 2 + 2 = k.val := by omega
    refine (concatenate_pair_apply_right (t := S16x17328x4) (s₁ := S16x17328x2) (s₂ := S16x17328x2) 2 _ _ _ (ix3 b n ⟨k.val, hk⟩) rfl rfl (ix3 b n ⟨k.val - 2, by omega⟩) (fun a ha => ?_) hk2).trans
      (congrArg₂ FloatOps.mulf (congrArg (FloatOps.hostUnary .exp) (lanes_apply _ 2 2 _ b n _ k (by show k.val = 2 + (k.val - 2); omega))) (anchs_apply b n _))
    match a with
    | ⟨0, _⟩ => rfl
    | ⟨1, _⟩ => rfl
    | ⟨2, _⟩ => exact absurd rfl ha

/-- The reference's result at an index. -/
theorem refBoxes_apply (x : FVec F S16x255x76x76 .f32) (b : Fin 16) (n : Fin 17328) (k : Fin 85) :
    refBoxes x (ix3 b n k) = refBox (n.val / 3 % 76) (n.val / 3 / 76) (n.val % 3) k.val (rows x (ix3 b n k)) := by
  by_cases h4 : k.val < 4
  · refine (concatenate_apply_piece (t := S16x17328x85) 2 _ _ (ix3 b n k) 0 (by exact (by decide : 0 < 3)) S16x17328x4 _ rfl rfl 0 rfl (ix3 b n ⟨k.val, h4⟩) (fun a ha => ?_) (Nat.zero_add _)).trans
      (corners_apply x b n k h4)
    match a with
    | ⟨0, _⟩ => rfl
    | ⟨1, _⟩ => rfl
    | ⟨2, _⟩ => exact absurd rfl ha
  · have e : refBox (n.val / 3 % 76) (n.val / 3 / 76) (n.val % 3) k.val (rows x (ix3 b n k)) = refSig (rows x (ix3 b n k)) := by
      unfold refBox; rw [if_neg (by omega), if_neg h4]
    rw [e]
    by_cases h5 : k.val < 5
    · refine (concatenate_apply_piece (t := S16x17328x85) 2 _ _ (ix3 b n k) 1 (by exact (by decide : 1 < 3)) S16x17328x1 _ rfl rfl 4 rfl (ix3 b n ⟨k.val - 4, by omega⟩) (fun a ha => ?_)
        (show 4 + (k.val - 4) = k.val by omega)).trans
        (congrArg refSig (lanes_apply _ 1 4 _ b n _ k (show k.val = 4 + (k.val - 4) by omega)))
      match a with
      | ⟨0, _⟩ => rfl
      | ⟨1, _⟩ => rfl
      | ⟨2, _⟩ => exact absurd rfl ha
    · refine (concatenate_apply_piece (t := S16x17328x85) 2 _ _ (ix3 b n k) 2 (by exact (by decide : 2 < 3)) S16x17328x80 _ rfl rfl 5 rfl (ix3 b n ⟨k.val - 5, by omega⟩) (fun a ha => ?_)
        (show 5 + (k.val - 5) = k.val by omega)).trans
        (congrArg refSig (lanes_apply _ 80 5 _ b n _ k (show k.val = 5 + (k.val - 5) by omega)))
      match a with
      | ⟨0, _⟩ => rfl
      | ⟨1, _⟩ => rfl
      | ⟨2, _⟩ => exact absurd rfl ha

end Cert.Yolo

end
-- ==== Proof.Equation.lean ====
/-
  THE EQUATION. Over the extended reals, at every input, the infinities too, the kernel's entry and the reference's are
  the same value: one minus the sigmoid of `-u` is the sigmoid of `u`, and the stride 8 multiplies out.
-/
module

public import proofs.«01_k».proof.Proof.Image
public import proofs.«01_k».proof.Proof.Reference
public import Idealize.ShloMosaic.Lib.IdealHost

@[expose] public section

noncomputable section

namespace Cert.Yolo

open Idealize.ShloMosaic

/-! ## The literals -/

theorem one_ideal : (one : Ideal .f32) = ((1 : ℝ) : EReal) := Ideal.ofBits_one_f32
theorem eight_ideal : (eight : Ideal .f32) = ((8 : ℝ) : EReal) := by
  show Ideal.ofBits .f32 0x41000000#32 = _
  simp [Ideal.ofBits, Ideal.ieee, -EReal.coe_mul]; norm_num

/-- A pixel's coordinate converts to itself. -/
theorem sitofp_ideal (g : ℕ) (hg : g < 2 ^ 31) : (FloatOps.sitofp .f32 (BitVec.ofNat 32 g) : Ideal .f32) = ((g : ℝ) : EReal) := by
  refine (Ideal.scalar_sitofp_def (φ := .f32) (BitVec.ofNat 32 g)).trans ?_
  rw [WordCmp.toInt_ofNat_of_lt hg, Int.cast_natCast]

/-- Anchor by anchor, the kernel's is eight times the reference's. -/
theorem anch_ideal (a k : ℕ) (ha : a < 3) (hk : k < 2) :
    ∃ r : ℝ, (refAnch a k : Ideal .f32) = ((r : ℝ) : EReal) ∧ (anch (a * 85 + (k + 2)) : Ideal .f32) = ((r * 8 : ℝ) : EReal) := by
  have key : ∀ (r : ℝ) (w v : BitVec 32), Ideal.ofBits .f32 w = ((r : ℝ) : EReal) → Ideal.ofBits .f32 v = ((r * 8 : ℝ) : EReal) →
      (refAnch a k : Ideal .f32) = Ideal.ofBits .f32 w → (anch (a * 85 + (k + 2)) : Ideal .f32) = Ideal.ofBits .f32 v →
      ∃ r : ℝ, (refAnch a k : Ideal .f32) = ((r : ℝ) : EReal) ∧ (anch (a * 85 + (k + 2)) : Ideal .f32) = ((r * 8 : ℝ) : EReal) :=
    fun r w v hw hv h1 h2 => ⟨r, h1.trans hw, h2.trans hv⟩
  interval_cases a <;> interval_cases k
  · refine key 14.5 0x41680000#32 0x42E80000#32 ?_ ?_ rfl rfl <;> simp [Ideal.ofBits, Ideal.ieee, -EReal.coe_mul] <;> norm_num
  · refine key 11.25 0x41340000#32 0x42B40000#32 ?_ ?_ rfl rfl <;> simp [Ideal.ofBits, Ideal.ieee, -EReal.coe_mul] <;> norm_num
  · refine key 19.5 0x419C0000#32 0x431C0000#32 ?_ ?_ rfl rfl <;> simp [Ideal.ofBits, Ideal.ieee, -EReal.coe_mul] <;> norm_num
  · refine key 24.75 0x41C60000#32 0x43460000#32 ?_ ?_ rfl rfl <;> simp [Ideal.ofBits, Ideal.ieee, -EReal.coe_mul] <;> norm_num
  · refine key 46.625 0x423A8000#32 0x43BA8000#32 ?_ ?_ rfl rfl <;> simp [Ideal.ofBits, Ideal.ieee, -EReal.coe_mul] <;> norm_num
  · refine key 40.75 0x42230000#32 0x43A30000#32 ?_ ?_ rfl rfl <;> simp [Ideal.ofBits, Ideal.ieee, -EReal.coe_mul] <;> norm_num

/-! ## One entry -/

/-- One minus the sigmoid of the negated input, scaled and moved, is the sigmoid of the input moved and scaled. -/
theorem sig_ideal (u : Ideal .f32) : ∃ r : ℝ, (refSig u : Ideal .f32) = ((r : ℝ) : EReal) ∧ (negSig u : Ideal .f32) = ((1 - r : ℝ) : EReal) := by
  have h1 : (refSig u : Ideal .f32) = Ideal.logistic u := by
    unfold refSig; rw [one_ideal]; rfl
  have h2 : (negSig u : Ideal .f32) = Ideal.logistic (-(u : EReal)) := by
    unfold negSig Ideal.logistic; rw [one_ideal, neg_neg]; rfl
  rw [h1, h2]
  induction (show EReal from u) using EReal.rec with
  | bot => exact ⟨0, by simp, by simp⟩
  | top => exact ⟨1, by simp, by simp⟩
  | coe x =>
    refine ⟨(1 + Real.exp (-x))⁻¹, Ideal.logistic_coe x, ?_⟩
    rw [← EReal.coe_neg, Ideal.logistic_coe, neg_neg, Real.exp_neg]
    have := Real.exp_pos x
    congr 1
    field_simp
    ring

/-- The kernel's entry is the reference's, at lane `k` of anchor `a`. -/
theorem entry_ideal (gx gy a k : ℕ) (hx : gx < 76) (hy : gy < 76) (ha : a < 3) (hk : k < 85) (u : Ideal .f32) :
    entry gx gy (a * 85 + k) u = refBox gx gy a k u := by
  have hl : (a * 85 + k) % 85 = k := by omega
  unfold entry refBox base scale stride
  rw [hl]
  obtain ⟨r, hs, hn⟩ := sig_ideal u
  rw [hs, hn]
  by_cases h2 : k < 2
  · rw [if_neg (by omega), if_pos h2, if_pos h2, eight_ideal]
    have pos : ∀ g : ℕ, g < 76 → FloatOps.subf (FloatOps.addf ((8 : ℝ) : EReal) (FloatOps.mulf (FloatOps.sitofp .f32 (BitVec.ofNat 32 g)) ((8 : ℝ) : EReal)))
        (FloatOps.mulf ((8 : ℝ) : EReal) ((1 - r : ℝ) : EReal))
        = (FloatOps.mulf (FloatOps.addf ((r : ℝ) : EReal) (FloatOps.sitofp .f32 (BitVec.ofNat 32 g))) ((8 : ℝ) : EReal) : Ideal .f32) := by
      intro g hg
      rw [sitofp_ideal g (by omega)]
      show ((8 : ℝ) : EReal) + ((g : ℝ) : EReal) * ((8 : ℝ) : EReal) - ((8 : ℝ) : EReal) * ((1 - r : ℝ) : EReal)
        = (((r : ℝ) : EReal) + ((g : ℝ) : EReal)) * ((8 : ℝ) : EReal)
      rw [← EReal.coe_mul, ← EReal.coe_mul, ← EReal.coe_add, ← EReal.coe_sub, ← EReal.coe_add, ← EReal.coe_mul]
      exact congrArg _ (by ring)
    by_cases h0 : k = 0
    · rw [if_pos h0, if_pos h0]; exact pos gx hx
    · rw [if_neg h0, if_pos (by omega), if_neg h0]; exact pos gy hy
  · rw [if_neg h2, if_neg h2]
    by_cases h4 : k < 4
    · rw [if_pos (by omega), if_pos h4]
      obtain ⟨q, hr, he⟩ := anch_ideal a (k - 2) ha (by omega)
      rw [show k - 2 + 2 = k by omega] at he
      rw [hr, he, eight_ideal]
      show ((q * 8 : ℝ) : EReal) * Ideal.exp u = Ideal.exp u * ((q : ℝ) : EReal) * ((8 : ℝ) : EReal)
      rw [EReal.coe_mul, mul_comm, mul_assoc]
    · rw [if_neg (by omega), if_neg h4, if_neg (by omega), if_neg (by omega), one_ideal]
      show ((1 : ℝ) : EReal) - ((1 : ℝ) : EReal) * ((1 - r : ℝ) : EReal) = ((r : ℝ) : EReal)
      norm_cast
      ring

/-! ## The arrays -/

/-- What the kernel leaves is what the reference computes, whatever the argument. -/
theorem boxes_ideal (x : FVec Ideal Cert.KernelIdeal.S16x255x76x76 .f32) : boxes x = refBoxes x := by
  have key : ∀ (b : Fin 16) (n : Fin 17328) (k : Fin 85), boxAt x b n k = refBoxes x (ix3 b n k) := fun b n k =>
    (entry_ideal _ _ _ _ (Nat.mod_lt _ (by omega)) (by omega) (Nat.mod_lt _ (by omega)) k.isLt _).trans
      ((refBoxes_apply x b n k).trans (congrArg _ (rows_apply x b n k))).symm
  exact funext fun y => (key _ _ _).trans (congrArg (refBoxes x) (ValueIdx.eq_ix3 y).symm)

end Cert.Yolo

end
-- ==== Proof.lean ====
/-
  THE CERTIFICATE of the box decode: the kernel terminates with its argument unchanged and its counters at zero, on bits
  and over the extended reals; so does the reference; and over the extended reals the two leave the same array, whatever
  the argument. The mathematics is in the modules: Proof/Tile.lean, Proof/Body.lean and Proof/Cell.lean (what the body
  computes), Proof/Region.lean (the run), Proof/Same.lean (that the kernel is its idealization's text), Proof/Image.lean (what the arrays hold), Proof/Reference.lean (what the
  reference computes) and Proof/Equation.lean (that they are equal).
-/
module

public import proofs.«01_k».proof.Defs
public import proofs.«01_k».proof.Proof.Same
public import proofs.«01_k».proof.Proof.Equation
public import Idealize.ShloMosaic.Lib.Quiescent

@[expose] public section

noncomputable section

namespace Cert.Proof

open Idealize.ShloMosaic Idealize.SL.Sem Cert.Yolo

/-- The kernel over any float values: it terminates with the argument unchanged and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun r h => ⟨arg_kept m r h, h.2⟩) (run_main m ρ)

/-- So on bits, -/
theorem frame_kernel : Cert.quiescent_Kernel := fun m ρ _ => by
  rw [← same_defs]
  exact frame (F := Bits) m ρ

/-- and over the extended reals. -/
theorem frame_ideal : Cert.quiescent_KernelIdeal := fun m ρ _ => frame (F := Ideal) m ρ

/-- The reference over the extended reals: likewise; it has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is `refBoxes` of its argument. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) Cert.ReferenceIdeal.main) ⟨m, fun _ => 0, ρ⟩ fun r => ∀ c : Dev Cert.ReferenceIdeal.nD,
      r.2.mem ((c.tc : Thread Cert.ReferenceIdeal.nD Cert.ReferenceIdeal.τ).loc Cert.ReferenceIdeal.main_v50)
        = refBoxes (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  Cert.ReferenceIdeal.Value.run (F := Ideal) m ρ

/-- From equal arguments the kernel and the reference leave equal arrays, element by element. -/
theorem algebraic : Cert.algebraic_KernelIdeal_ReferenceIdeal := fun m ρ m' ρ' _ hm =>
  ⟨fun c => boxes (arg m c),
    (θ_run Cert.KernelIdeal.defs _ _).mono (fun r h c => ⟨((h.1 c).1 2).trans (out_boxes m c), arg_kept m r h c⟩) (run_main (F := Ideal) m ρ),
    (θ_run Cert.ReferenceIdeal.defs _ _).mono
      (fun _ h c => ⟨(h c).1.trans ((congrArg refBoxes (hm c)).trans (boxes_ideal (arg m c)).symm), (h c).2⟩) (run_ref m' ρ')⟩

/-- Everything claimed. -/
theorem claim : Cert.Claim :=
  ⟨Cert.Kernel.Gen.facts, Cert.KernelIdeal.Gen.facts, Cert.ReferenceIdeal.Gen.facts, frame_kernel, frame_ideal, frame_ref, trivial, algebraic⟩

end Cert.Proof

end
